-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1024x7680 : Shape := ⟨3, ![24, 1024, 7680]⟩
abbrev S7680x1440 : Shape := ⟨2, ![7680, 1440]⟩
abbrev S7680x90 : Shape := ⟨2, ![7680, 90]⟩
abbrev S2880x7680 : Shape := ⟨2, ![2880, 7680]⟩
abbrev S256x1440 : Shape := ⟨2, ![256, 1440]⟩
abbrev S256x90 : Shape := ⟨2, ![256, 90]⟩
abbrev S2880x256 : Shape := ⟨2, ![2880, 256]⟩
abbrev S1440x256 : Shape := ⟨2, ![1440, 256]⟩
abbrev S90x256 : Shape := ⟨2, ![90, 256]⟩
abbrev S90x1x256 : Shape := ⟨3, ![90, 1, 256]⟩
abbrev S90x16x256 : Shape := ⟨3, ![90, 16, 256]⟩
abbrev S24576x7680 : Shape := ⟨2, ![24576, 7680]⟩
abbrev S24576x2880 : Shape := ⟨2, ![24576, 2880]⟩
abbrev S256x7680 : Shape := ⟨2, ![256, 7680]⟩
abbrev S256x2880 : Shape := ⟨2, ![256, 2880]⟩
abbrev S512x7680 : Shape := ⟨2, ![512, 7680]⟩
abbrev S512x256 : Shape := ⟨2, ![512, 256]⟩
abbrev S256x512 : Shape := ⟨2, ![256, 512]⟩
abbrev S320x7680 : Shape := ⟨2, ![320, 7680]⟩
abbrev S320x256 : Shape := ⟨2, ![320, 256]⟩
abbrev S256x320 : Shape := ⟨2, ![256, 320]⟩
abbrev S24x1024x2880 : Shape := ⟨3, ![24, 1024, 2880]⟩

abbrev nBuf : Space → Nat
  | .hbm => 7
  | .vmem => 11
  | .smem => 0
  | _ => 0

abbrev bufTy : (tb : Table) → Fin (tcTables nBuf tb) → BufTy
  | .hbm, ⟨0, _⟩ => ⟨S24x1024x7680, .bf16⟩
  | .hbm, ⟨1, _⟩ => ⟨S7680x1440, .i8⟩
  | .hbm, ⟨2, _⟩ => ⟨S7680x90, .i8⟩
  | .hbm, ⟨3, _⟩ => ⟨S2880x7680, .bf16⟩
  | .hbm, ⟨4, _⟩ => ⟨S24576x7680, .bf16⟩
  | .hbm, ⟨5, _⟩ => ⟨S24576x2880, .bf16⟩
  | .hbm, ⟨6, _⟩ => ⟨S24x1024x2880, .bf16⟩
  | .local _ .vmem, ⟨0, _⟩ => ⟨S256x1440, .i8⟩
  | .local _ .vmem, ⟨1, _⟩ => ⟨S256x1440, .i8⟩
  | .local _ .vmem, ⟨2, _⟩ => ⟨S256x90, .i8⟩
  | .local _ .vmem, ⟨3, _⟩ => ⟨S256x90, .i8⟩
  | .local _ .vmem, ⟨4, _⟩ => ⟨S2880x256, .bf16⟩
  | .local _ .vmem, ⟨5, _⟩ => ⟨S2880x256, .bf16⟩
  | .local _ .vmem, ⟨6, _⟩ => ⟨S256x7680, .bf16⟩
  | .local _ .vmem, ⟨7, _⟩ => ⟨S256x7680, .bf16⟩
  | .local _ .vmem, ⟨8, _⟩ => ⟨S2880x7680, .bf16⟩
  | .local _ .vmem, ⟨9, _⟩ => ⟨S256x2880, .bf16⟩
  | .local _ .vmem, ⟨10, _⟩ => ⟨S256x2880, .bf16⟩
  | _, _ => ⟨S24x1024x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1440 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x90 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2880x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![96], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x7680 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2880x7680 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2880 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S24x1024x7680 : Shape := ⟨3, ![24, 1024, 7680]⟩
abbrev S7680x1440 : Shape := ⟨2, ![7680, 1440]⟩
abbrev S7680x90 : Shape := ⟨2, ![7680, 90]⟩
abbrev S_ : Shape := ⟨0, ![]⟩
abbrev S7680x90x16 : Shape := ⟨3, ![7680, 90, 16]⟩
abbrev S7680x90x1 : Shape := ⟨3, ![7680, 90, 1]⟩
abbrev S24x1024x1440 : Shape := ⟨3, ![24, 1024, 1440]⟩
abbrev S24x1024x1440x1 : Shape := ⟨4, ![24, 1024, 1440, 1]⟩
abbrev S24x1024x1440x2 : Shape := ⟨4, ![24, 1024, 1440, 2]⟩
abbrev S24x1024x2880 : Shape := ⟨3, ![24, 1024, 2880]⟩

abbrev nBuf : Space → Nat
  | .hbm => 184
  | .vmem => 0
  | .smem => 0
  | _ => 0

abbrev hbmTy0_0 (i : Nat) : BufTy := match i % 128 with
  | 0 => ⟨S24x1024x7680, .bf16⟩
  | 1 => ⟨S7680x1440, .i8⟩
  | 2 => ⟨S7680x90, .i8⟩
  | 3 => ⟨S7680x1440, .i32⟩
  | 4 => ⟨S_, .i32⟩
  | 5 => ⟨S7680x1440, .i32⟩
  | 6 => ⟨S7680x1440, .i32⟩
  | 7 => ⟨S_, .i32⟩
  | 8 => ⟨S7680x1440, .i32⟩
  | 9 => ⟨S7680x1440, .i32⟩
  | 10 => ⟨S7680x90, .i32⟩
  | 11 => ⟨S_, .i32⟩
  | 12 => ⟨S7680x90, .i32⟩
  | 13 => ⟨S7680x90, .i32⟩
  | 14 => ⟨S_, .i32⟩
  | 15 => ⟨S7680x90, .i32⟩
  | 16 => ⟨S7680x90, .i1⟩
  | 17 => ⟨S7680x90, .f32⟩
  | 18 => ⟨S_, .f32⟩
  | 19 => ⟨S7680x90, .f32⟩
  | 20 => ⟨S7680x90, .f32⟩
  | 21 => ⟨S_, .f32⟩
  | 22 => ⟨S7680x90, .f32⟩
  | 23 => ⟨S7680x90, .f32⟩
  | 24 => ⟨S7680x90, .bf16⟩
  | 25 => ⟨S_, .i32⟩
  | 26 => ⟨S7680x1440, .i32⟩
  | 27 => ⟨S7680x1440, .i32⟩
  | 28 => ⟨S_, .i32⟩
  | 29 => ⟨S7680x1440, .i32⟩
  | 30 => ⟨S7680x1440, .i1⟩
  | 31 => ⟨S_, .i32⟩
  | 32 => ⟨S7680x1440, .i32⟩
  | 33 => ⟨S7680x1440, .i32⟩
  | 34 => ⟨S_, .i32⟩
  | 35 => ⟨S7680x1440, .i32⟩
  | 36 => ⟨S7680x1440, .i1⟩
  | 37 => ⟨S_, .i32⟩
  | 38 => ⟨S7680x1440, .i32⟩
  | 39 => ⟨S7680x1440, .i32⟩
  | 40 => ⟨S_, .i32⟩
  | 41 => ⟨S7680x1440, .i32⟩
  | 42 => ⟨S7680x1440, .i1⟩
  | 43 => ⟨S_, .i32⟩
  | 44 => ⟨S7680x1440, .i32⟩
  | 45 => ⟨S7680x1440, .i32⟩
  | 46 => ⟨S_, .i32⟩
  | 47 => ⟨S7680x1440, .i32⟩
  | 48 => ⟨S7680x1440, .i1⟩
  | 49 => ⟨S_, .bf16⟩
  | 50 => ⟨S_, .bf16⟩
  | 51 => ⟨S7680x1440, .bf16⟩
  | 52 => ⟨S7680x1440, .bf16⟩
  | 53 => ⟨S7680x1440, .bf16⟩
  | 54 => ⟨S_, .bf16⟩
  | 55 => ⟨S_, .bf16⟩
  | 56 => ⟨S7680x1440, .bf16⟩
  | 57 => ⟨S7680x1440, .bf16⟩
  | 58 => ⟨S7680x1440, .bf16⟩
  | 59 => ⟨S7680x1440, .bf16⟩
  | 60 => ⟨S_, .bf16⟩
  | 61 => ⟨S_, .bf16⟩
  | 62 => ⟨S7680x1440, .bf16⟩
  | 63 => ⟨S7680x1440, .bf16⟩
  | 64 => ⟨S7680x1440, .bf16⟩
  | 65 => ⟨S_, .bf16⟩
  | 66 => ⟨S_, .bf16⟩
  | 67 => ⟨S7680x1440, .bf16⟩
  | 68 => ⟨S7680x1440, .bf16⟩
  | 69 => ⟨S7680x1440, .bf16⟩
  | 70 => ⟨S7680x1440, .bf16⟩
  | 71 => ⟨S7680x1440, .bf16⟩
  | 72 => ⟨S_, .bf16⟩
  | 73 => ⟨S_, .bf16⟩
  | 74 => ⟨S7680x1440, .bf16⟩
  | 75 => ⟨S7680x1440, .bf16⟩
  | 76 => ⟨S7680x1440, .bf16⟩
  | 77 => ⟨S_, .bf16⟩
  | 78 => ⟨S_, .bf16⟩
  | 79 => ⟨S7680x1440, .bf16⟩
  | 80 => ⟨S7680x1440, .bf16⟩
  | 81 => ⟨S7680x1440, .bf16⟩
  | 82 => ⟨S7680x1440, .bf16⟩
  | 83 => ⟨S_, .bf16⟩
  | 84 => ⟨S_, .bf16⟩
  | 85 => ⟨S7680x1440, .bf16⟩
  | 86 => ⟨S7680x1440, .bf16⟩
  | 87 => ⟨S7680x1440, .bf16⟩
  | 88 => ⟨S_, .bf16⟩
  | 89 => ⟨S_, .bf16⟩
  | 90 => ⟨S7680x1440, .bf16⟩
  | 91 => ⟨S7680x1440, .bf16⟩
  | 92 => ⟨S7680x1440, .bf16⟩
  | 93 => ⟨S7680x1440, .bf16⟩
  | 94 => ⟨S7680x1440, .bf16⟩
  | 95 => ⟨S7680x1440, .bf16⟩
  | 96 => ⟨S7680x90x16, .bf16⟩
  | 97 => ⟨S7680x90x1, .bf16⟩
  | 98 => ⟨S7680x90x16, .bf16⟩
  | 99 => ⟨S7680x90x16, .bf16⟩
  | 100 => ⟨S7680x1440, .bf16⟩
  | 101 => ⟨S_, .i32⟩
  | 102 => ⟨S7680x1440, .i32⟩
  | 103 => ⟨S7680x1440, .i32⟩
  | 104 => ⟨S_, .i32⟩
  | 105 => ⟨S7680x1440, .i32⟩
  | 106 => ⟨S7680x1440, .i1⟩
  | 107 => ⟨S_, .i32⟩
  | 108 => ⟨S7680x1440, .i32⟩
  | 109 => ⟨S7680x1440, .i32⟩
  | 110 => ⟨S_, .i32⟩
  | 111 => ⟨S7680x1440, .i32⟩
  | 112 => ⟨S7680x1440, .i1⟩
  | 113 => ⟨S_, .i32⟩
  | 114 => ⟨S7680x1440, .i32⟩
  | 115 => ⟨S7680x1440, .i32⟩
  | 116 => ⟨S_, .i32⟩
  | 117 => ⟨S7680x1440, .i32⟩
  | 118 => ⟨S7680x1440, .i1⟩
  | 119 => ⟨S_, .i32⟩
  | 120 => ⟨S7680x1440, .i32⟩
  | 121 => ⟨S7680x1440, .i32⟩
  | 122 => ⟨S_, .i32⟩
  | 123 => ⟨S7680x1440, .i32⟩
  | 124 => ⟨S7680x1440, .i1⟩
  | 125 => ⟨S_, .bf16⟩
  | 126 => ⟨S_, .bf16⟩
  | 127 => ⟨S7680x1440, .bf16⟩
  | _ => ⟨S24x1024x7680, .bf16⟩

abbrev hbmTy0_1 (i : Nat) : BufTy := match i % 128 with
  | 0 => ⟨S7680x1440, .bf16⟩
  | 1 => ⟨S7680x1440, .bf16⟩
  | 2 => ⟨S_, .bf16⟩
  | 3 => ⟨S_, .bf16⟩
  | 4 => ⟨S7680x1440, .bf16⟩
  | 5 => ⟨S7680x1440, .bf16⟩
  | 6 => ⟨S7680x1440, .bf16⟩
  | 7 => ⟨S7680x1440, .bf16⟩
  | 8 => ⟨S_, .bf16⟩
  | 9 => ⟨S_, .bf16⟩
  | 10 => ⟨S7680x1440, .bf16⟩
  | 11 => ⟨S7680x1440, .bf16⟩
  | 12 => ⟨S7680x1440, .bf16⟩
  | 13 => ⟨S_, .bf16⟩
  | 14 => ⟨S_, .bf16⟩
  | 15 => ⟨S7680x1440, .bf16⟩
  | 16 => ⟨S7680x1440, .bf16⟩
  | 17 => ⟨S7680x1440, .bf16⟩
  | 18 => ⟨S7680x1440, .bf16⟩
  | 19 => ⟨S7680x1440, .bf16⟩
  | 20 => ⟨S_, .bf16⟩
  | 21 => ⟨S_, .bf16⟩
  | 22 => ⟨S7680x1440, .bf16⟩
  | 23 => ⟨S7680x1440, .bf16⟩
  | 24 => ⟨S7680x1440, .bf16⟩
  | 25 => ⟨S_, .bf16⟩
  | 26 => ⟨S_, .bf16⟩
  | 27 => ⟨S7680x1440, .bf16⟩
  | 28 => ⟨S7680x1440, .bf16⟩
  | 29 => ⟨S7680x1440, .bf16⟩
  | 30 => ⟨S7680x1440, .bf16⟩
  | 31 => ⟨S_, .bf16⟩
  | 32 => ⟨S_, .bf16⟩
  | 33 => ⟨S7680x1440, .bf16⟩
  | 34 => ⟨S7680x1440, .bf16⟩
  | 35 => ⟨S7680x1440, .bf16⟩
  | 36 => ⟨S_, .bf16⟩
  | 37 => ⟨S_, .bf16⟩
  | 38 => ⟨S7680x1440, .bf16⟩
  | 39 => ⟨S7680x1440, .bf16⟩
  | 40 => ⟨S7680x1440, .bf16⟩
  | 41 => ⟨S7680x1440, .bf16⟩
  | 42 => ⟨S7680x1440, .bf16⟩
  | 43 => ⟨S7680x1440, .bf16⟩
  | 44 => ⟨S7680x90x16, .bf16⟩
  | 45 => ⟨S7680x90x1, .bf16⟩
  | 46 => ⟨S7680x90x16, .bf16⟩
  | 47 => ⟨S7680x90x16, .bf16⟩
  | 48 => ⟨S7680x1440, .bf16⟩
  | 49 => ⟨S24x1024x1440, .f32⟩
  | 50 => ⟨S24x1024x1440, .f32⟩
  | 51 => ⟨S24x1024x1440x1, .f32⟩
  | 52 => ⟨S24x1024x1440x1, .f32⟩
  | 53 => ⟨S24x1024x1440x2, .f32⟩
  | 54 => ⟨S24x1024x2880, .f32⟩
  | 55 => ⟨S24x1024x2880, .bf16⟩
  | _ => ⟨S24x1024x7680, .bf16⟩

abbrev hbmTy (i : Nat) : BufTy := match i / 128 with
  | 0 => hbmTy0_0 i
  | 1 => hbmTy0_1 i
  | _ => ⟨S24x1024x7680, .bf16⟩

abbrev bufTy : (tb : Table) → Fin (tcTables nBuf tb) → BufTy
  | .hbm, ⟨i, _⟩ => hbmTy i
  | _, _ => ⟨S24x1024x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_c_6 : Ref sig .tc := ⟨.hbm, 31, rfl⟩
abbrev main_v19 : Ref sig .tc := ⟨.hbm, 32, rfl⟩
abbrev main_v20 : Ref sig .tc := ⟨.hbm, 33, rfl⟩
abbrev main_c_7 : Ref sig .tc := ⟨.hbm, 34, rfl⟩
abbrev main_v21 : Ref sig .tc := ⟨.hbm, 35, rfl⟩
abbrev main_v22 : Ref sig .tc := ⟨.hbm, 36, rfl⟩
abbrev main_c_8 : Ref sig .tc := ⟨.hbm, 37, rfl⟩
abbrev main_v23 : Ref sig .tc := ⟨.hbm, 38, rfl⟩
abbrev main_v24 : Ref sig .tc := ⟨.hbm, 39, rfl⟩
abbrev main_c_9 : Ref sig .tc := ⟨.hbm, 40, rfl⟩
abbrev main_v25 : Ref sig .tc := ⟨.hbm, 41, rfl⟩
abbrev main_v26 : Ref sig .tc := ⟨.hbm, 42, rfl⟩
abbrev main_c_10 : Ref sig .tc := ⟨.hbm, 43, rfl⟩
abbrev main_v27 : Ref sig .tc := ⟨.hbm, 44, rfl⟩
abbrev main_v28 : Ref sig .tc := ⟨.hbm, 45, rfl⟩
abbrev main_c_11 : Ref sig .tc := ⟨.hbm, 46, rfl⟩
abbrev main_v29 : Ref sig .tc := ⟨.hbm, 47, rfl⟩
abbrev main_v30 : Ref sig .tc := ⟨.hbm, 48, rfl⟩
abbrev main_cst_12 : Ref sig .tc := ⟨.hbm, 49, rfl⟩
abbrev main_cst_13 : Ref sig .tc := ⟨.hbm, 50, rfl⟩
abbrev main_call1_v0 : Ref sig .tc := ⟨.hbm, 51, rfl⟩
abbrev main_call1_v1 : Ref sig .tc := ⟨.hbm, 52, rfl⟩
abbrev main_v31 : Ref sig .tc := ⟨.hbm, 53, rfl⟩
abbrev main_cst_14 : Ref sig .tc := ⟨.hbm, 54, rfl⟩
abbrev main_cst_15 : Ref sig .tc := ⟨.hbm, 55, rfl⟩
abbrev main_call2_v0 : Ref sig .tc := ⟨.hbm, 56, rfl⟩
abbrev main_call2_v1 : Ref sig .tc := ⟨.hbm, 57, rfl⟩
abbrev main_v32 : Ref sig .tc := ⟨.hbm, 58, rfl⟩
abbrev main_v33 : Ref sig .tc := ⟨.hbm, 59, rfl⟩
abbrev main_cst_16 : Ref sig .tc := ⟨.hbm, 60, rfl⟩
abbrev main_cst_17 : Ref sig .tc := ⟨.hbm, 61, rfl⟩
abbrev main_call4_v0 : Ref sig .tc := ⟨.hbm, 62, rfl⟩
abbrev main_call4_v1 : Ref sig .tc := ⟨.hbm, 63, rfl⟩
abbrev main_v34 : Ref sig .tc := ⟨.hbm, 64, rfl⟩
abbrev main_cst_18 : Ref sig .tc := ⟨.hbm, 65, rfl⟩
abbrev main_cst_19 : Ref sig .tc := ⟨.hbm, 66, rfl⟩
abbrev main_call5_v0 : Ref sig .tc := ⟨.hbm, 67, rfl⟩
abbrev main_call5_v1 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_20 : Ref sig .tc := ⟨.hbm, 72, rfl⟩
abbrev main_cst_21 : Ref sig .tc := ⟨.hbm, 73, rfl⟩
abbrev main_call8_v0 : Ref sig .tc := ⟨.hbm, 74, rfl⟩
abbrev main_call8_v1 : Ref sig .tc := ⟨.hbm, 75, rfl⟩
abbrev main_v38 : Ref sig .tc := ⟨.hbm, 76, rfl⟩
abbrev main_cst_22 : Ref sig .tc := ⟨.hbm, 77, rfl⟩
abbrev main_cst_23 : Ref sig .tc := ⟨.hbm, 78, rfl⟩
abbrev main_call9_v0 : Ref sig .tc := ⟨.hbm, 79, rfl⟩
abbrev main_call9_v1 : Ref sig .tc := ⟨.hbm, 80, rfl⟩
abbrev main_v39 : Ref sig .tc := ⟨.hbm, 81, rfl⟩
abbrev main_v40 : Ref sig .tc := ⟨.hbm, 82, rfl⟩
abbrev main_cst_24 : Ref sig .tc := ⟨.hbm, 83, rfl⟩
abbrev main_cst_25 : Ref sig .tc := ⟨.hbm, 84, rfl⟩
abbrev main_call11_v0 : Ref sig .tc := ⟨.hbm, 85, rfl⟩
abbrev main_call11_v1 : Ref sig .tc := ⟨.hbm, 86, rfl⟩
abbrev main_v41 : Ref sig .tc := ⟨.hbm, 87, rfl⟩
abbrev main_cst_26 : Ref sig .tc := ⟨.hbm, 88, rfl⟩
abbrev main_cst_27 : Ref sig .tc := ⟨.hbm, 89, rfl⟩
abbrev main_call12_v0 : Ref sig .tc := ⟨.hbm, 90, rfl⟩
abbrev main_call12_v1 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_c_28 : Ref sig .tc := ⟨.hbm, 101, rfl⟩
abbrev main_v51 : Ref sig .tc := ⟨.hbm, 102, rfl⟩
abbrev main_v52 : Ref sig .tc := ⟨.hbm, 103, rfl⟩
abbrev main_c_29 : Ref sig .tc := ⟨.hbm, 104, rfl⟩
abbrev main_v53 : Ref sig .tc := ⟨.hbm, 105, rfl⟩
abbrev main_v54 : Ref sig .tc := ⟨.hbm, 106, rfl⟩
abbrev main_c_30 : Ref sig .tc := ⟨.hbm, 107, rfl⟩
abbrev main_v55 : Ref sig .tc := ⟨.hbm, 108, rfl⟩
abbrev main_v56 : Ref sig .tc := ⟨.hbm, 109, rfl⟩
abbrev main_c_31 : Ref sig .tc := ⟨.hbm, 110, rfl⟩
abbrev main_v57 : Ref sig .tc := ⟨.hbm, 111, rfl⟩
abbrev main_v58 : Ref sig .tc := ⟨.hbm, 112, rfl⟩
abbrev main_c_32 : Ref sig .tc := ⟨.hbm, 113, rfl⟩
abbrev main_v59 : Ref sig .tc := ⟨.hbm, 114, rfl⟩
abbrev main_v60 : Ref sig .tc := ⟨.hbm, 115, rfl⟩
abbrev main_c_33 : Ref sig .tc := ⟨.hbm, 116, rfl⟩
abbrev main_v61 : Ref sig .tc := ⟨.hbm, 117, rfl⟩
abbrev main_v62 : Ref sig .tc := ⟨.hbm, 118, rfl⟩
abbrev main_c_34 : Ref sig .tc := ⟨.hbm, 119, rfl⟩
abbrev main_v63 : Ref sig .tc := ⟨.hbm, 120, rfl⟩
abbrev main_v64 : Ref sig .tc := ⟨.hbm, 121, rfl⟩
abbrev main_c_35 : Ref sig .tc := ⟨.hbm, 122, rfl⟩
abbrev main_v65 : Ref sig .tc := ⟨.hbm, 123, rfl⟩
abbrev main_v66 : Ref sig .tc := ⟨.hbm, 124, rfl⟩
abbrev main_cst_36 : Ref sig .tc := ⟨.hbm, 125, rfl⟩
abbrev main_cst_37 : Ref sig .tc := ⟨.hbm, 126, rfl⟩
abbrev main_call16_v0 : Ref sig .tc := ⟨.hbm, 127, rfl⟩
abbrev main_call16_v1 : Ref sig .tc := ⟨.hbm, 128, rfl⟩
abbrev main_v67 : Ref sig .tc := ⟨.hbm, 129, rfl⟩
abbrev main_cst_38 : Ref sig .tc := ⟨.hbm, 130, rfl⟩
abbrev main_cst_39 : Ref sig .tc := ⟨.hbm, 131, rfl⟩
abbrev main_call17_v0 : Ref sig .tc := ⟨.hbm, 132, rfl⟩
abbrev main_call17_v1 : Ref sig .tc := ⟨.hbm, 133, rfl⟩
abbrev main_v68 : Ref sig .tc := ⟨.hbm, 134, rfl⟩
abbrev main_v69 : Ref sig .tc := ⟨.hbm, 135, rfl⟩
abbrev main_cst_40 : Ref sig .tc := ⟨.hbm, 136, rfl⟩
abbrev main_cst_41 : Ref sig .tc := ⟨.hbm, 137, rfl⟩
abbrev main_call19_v0 : Ref sig .tc := ⟨.hbm, 138, rfl⟩
abbrev main_call19_v1 : Ref sig .tc := ⟨.hbm, 139, rfl⟩
abbrev main_v70 : Ref sig .tc := ⟨.hbm, 140, rfl⟩
abbrev main_cst_42 : Ref sig .tc := ⟨.hbm, 141, rfl⟩
abbrev main_cst_43 : Ref sig .tc := ⟨.hbm, 142, rfl⟩
abbrev main_call20_v0 : Ref sig .tc := ⟨.hbm, 143, rfl⟩
abbrev main_call20_v1 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_cst_44 : Ref sig .tc := ⟨.hbm, 148, rfl⟩
abbrev main_cst_45 : Ref sig .tc := ⟨.hbm, 149, rfl⟩
abbrev main_call23_v0 : Ref sig .tc := ⟨.hbm, 150, rfl⟩
abbrev main_call23_v1 : Ref sig .tc := ⟨.hbm, 151, rfl⟩
abbrev main_v74 : Ref sig .tc := ⟨.hbm, 152, rfl⟩
abbrev main_cst_46 : Ref sig .tc := ⟨.hbm, 153, rfl⟩
abbrev main_cst_47 : Ref sig .tc := ⟨.hbm, 154, rfl⟩
abbrev main_call24_v0 : Ref sig .tc := ⟨.hbm, 155, rfl⟩
abbrev main_call24_v1 : Ref sig .tc := ⟨.hbm, 156, rfl⟩
abbrev main_v75 : Ref sig .tc := ⟨.hbm, 157, rfl⟩
abbrev main_v76 : Ref sig .tc := ⟨.hbm, 158, rfl⟩
abbrev main_cst_48 : Ref sig .tc := ⟨.hbm, 159, rfl⟩
abbrev main_cst_49 : Ref sig .tc := ⟨.hbm, 160, rfl⟩
abbrev main_call26_v0 : Ref sig .tc := ⟨.hbm, 161, rfl⟩
abbrev main_call26_v1 : Ref sig .tc := ⟨.hbm, 162, rfl⟩
abbrev main_v77 : Ref sig .tc := ⟨.hbm, 163, rfl⟩
abbrev main_cst_50 : Ref sig .tc := ⟨.hbm, 164, rfl⟩
abbrev main_cst_51 : Ref sig .tc := ⟨.hbm, 165, rfl⟩
abbrev main_call27_v0 : Ref sig .tc := ⟨.hbm, 166, rfl⟩
abbrev main_call27_v1 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩

abbrev nD : Nat := 1
abbrev τ : Topo := Topo.v7x

variable {F : FTy → Type} [FloatOps F]
-- ==== Proof.KernelRun.lean ====
/- The kernel's run with its result: the printed program terminates with the result array at what the last host
   operation leaves (`W4`), and the argument arrays unchanged. The proof is the generated frame's, with one more
   array read at the end. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the kernel's program terminates with the
    result array at `W4`'s contents of it and the three argument arrays as launched. -/
theorem kernel_run : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Gen

end
-- ==== Proof.Weights.lean ====
/- The decoding of one weight, on scalars. A byte carries two four-bit floats (one sign bit, two exponent bits, one
   fraction bit) and a scale byte carries a power of two. The kernel builds the sixteen-bit words of both by shifts
   and masks of a 32-bit word; the mathematics is a table and a power. The two are equal for every byte. -/
module

public import Idealize.ShloMosaic.Lib.Pointwise

@[expose] public section

set_option maxRecDepth 16384

noncomputable section

namespace Cert.Weights

open Idealize.ShloMosaic

/-! ## The mathematics: the table and the power -/

/-- The four-bit code of a byte: the low half is the even column's (`q = 0`), the high half the odd column's. -/
def nibble (b : BitVec 8) (q : Fin 2) : BitVec 32 :=
  if q = 0 then IntOp.andi (b.setWidth 32) 15#32 else IntOp.shrsi .host (b.setWidth 32) 4#32

/-- Bit `k` of a code, as the one-bit word of a comparison. -/
def hasBit (c k : BitVec 32) : BitVec 1 := IntOp.cmpi .ne (IntOp.andi c k) 0#32

/-- The word of the four-bit float a code denotes: ±{0, 0.5, 1, 1.5, 2, 3, 4, 6}. -/
def e2m1Word (c : BitVec 32) : BitVec 16 :=
  Scalar.select (hasBit c 8#32)
    (Scalar.select (hasBit c 4#32)
      (Scalar.select (hasBit c 2#32) (Scalar.select (hasBit c 1#32) 0xC0C0#16 0xC080#16) (Scalar.select (hasBit c 1#32) 0xC040#16 0xC000#16))
      (Scalar.select (hasBit c 2#32) (Scalar.select (hasBit c 1#32) 0xBFC0#16 0xBF80#16) (Scalar.select (hasBit c 1#32) 0xBF00#16 0x8000#16)))
    (Scalar.select (hasBit c 4#32)
      (Scalar.select (hasBit c 2#32) (Scalar.select (hasBit c 1#32) 0x40C0#16 0x4080#16) (Scalar.select (hasBit c 1#32) 0x4040#16 0x4000#16))
      (Scalar.select (hasBit c 2#32) (Scalar.select (hasBit c 1#32) 0x3FC0#16 0x3F80#16) (Scalar.select (hasBit c 1#32) 0x3F00#16 0x0000#16)))

/-- The value of a code. -/
def e2m1 (c : BitVec 32) : EReal := Ideal.ofBits .bf16 (e2m1Word c)

/-- The unbiased exponent of a scale byte. -/
def scaleExp (s : BitVec 8) : BitVec 32 := IntOp.subi (s.setWidth 32) 127#32

/-- The value of a scale byte: the power of two, infinity above the largest exponent. -/
def e8m0 (s : BitVec 8) : EReal :=
  Scalar.select (IntOp.cmpi .sgt (scaleExp s) 127#32) (Ideal.ofBits .f32 0x7F800000#32)
    (Ideal.pow (Ideal.ofBits .f32 0x40000000#32) (((scaleExp s).toInt : ℝ) : EReal))

/-! ## The kernel's words -/

/-- Half `q` of a 32-bit word. -/
def half (w : BitVec 32) (q : Nat) : BitVec 16 := w.extractLsb' (16 * q) 16

/-- The byte in a word, with the high half's code moved to where the low half's stands, sixteen bits up. -/
def spread (x : BitVec 32) : BitVec 32 := IntOp.ori x (IntOp.shli .vector x 12#32)

/-- The two magnitudes' words before the correction of the subnormal code. -/
def magWord (x : BitVec 32) : BitVec 32 :=
  IntOp.addi (IntOp.andi (IntOp.shli .vector (spread x) 6#32) 29360576#32) 1056980736#32

/-- The two signs' words, as `1` and `-1`. -/
def signWord (x : BitVec 32) : BitVec 32 :=
  IntOp.ori (IntOp.andi (IntOp.shli .vector (spread x) 12#32) 2147516416#32) 1065369472#32

/-- A scale byte's word in the low half. -/
def scaleLow (s : BitVec 32) : BitVec 32 := IntOp.maxsi (IntOp.shli .vector s 7#32) 64#32

/-- A scale byte's word in both halves. -/
def scaleWord (s : BitVec 32) : BitVec 32 := IntOp.ori (scaleLow s) (IntOp.shli .vector (scaleLow s) 16#32)

/-- What the kernel makes of the words of a magnitude, a sign and a scale. -/
def kernelWeight (v g s : BitVec 16) : EReal :=
  min (Ideal.ofBits .bf16 v) (Ideal.ofBits .bf16 v + Ideal.ofBits .bf16 v - Ideal.ofBits .bf16 0x3F80#16)
    * Ideal.ofBits .bf16 g * Ideal.ofBits .bf16 s

/-! ## Equal, code by code -/

/-- The sixteen codes: magnitude word, sign word, word of the table. -/
def codes : List (BitVec 16 × BitVec 16 × BitVec 16) :=
  [(0x3F00#16, 0x3F80#16, 0x0000#16), (0x3F40#16, 0x3F80#16, 0x3F00#16), (0x3F80#16, 0x3F80#16, 0x3F80#16), (0x3FC0#16, 0x3F80#16, 0x3FC0#16),
   (0x4000#16, 0x3F80#16, 0x4000#16), (0x4040#16, 0x3F80#16, 0x4040#16), (0x4080#16, 0x3F80#16, 0x4080#16), (0x40C0#16, 0x3F80#16, 0x40C0#16),
   (0x3F00#16, 0xBF80#16, 0x8000#16), (0x3F40#16, 0xBF80#16, 0xBF00#16), (0x3F80#16, 0xBF80#16, 0xBF80#16), (0x3FC0#16, 0xBF80#16, 0xBFC0#16),
   (0x4000#16, 0xBF80#16, 0xC000#16), (0x4040#16, 0xBF80#16, 0xC040#16), (0x4080#16, 0xBF80#16, 0xC080#16), (0x40C0#16, 0xBF80#16, 0xC0C0#16)]

/-- Every byte's halves are among the sixteen. -/
theorem mem_codes : ∀ b : BitVec 8, ∀ q : Fin 2,
    (half (magWord (b.setWidth 32)) q, half (signWord (b.setWidth 32)) q, e2m1Word (nibble b q)) ∈ codes := by
  decide +kernel

/-- On each of the sixteen, the smaller of `v` and `2 v - 1` with the sign is the table's value. -/
theorem codes_value : ∀ p ∈ codes,
    min (Ideal.ofBits .bf16 p.1) (Ideal.ofBits .bf16 p.1 + Ideal.ofBits .bf16 p.1 - Ideal.ofBits .bf16 0x3F80#16)
      * Ideal.ofBits .bf16 p.2.1 = Ideal.ofBits .bf16 p.2.2 := by
  intro p hp
  have h : ∀ w ∈ [(0x3F80#16, (1:ℝ)), (0xBF80#16, -1), (0x3F00#16, 0.5), (0x3F40#16, 0.75), (0x3FC0#16, 1.5), (0x4000#16, 2), (0x4040#16, 3), (0x4080#16, 4), (0x40C0#16, 6),
      (0x0000#16, 0), (0x8000#16, 0), (0xBF00#16, -0.5), (0xBFC0#16, -1.5), (0xC000#16, -2), (0xC040#16, -3), (0xC080#16, -4), (0xC0C0#16, -6)],
      Ideal.ofBits .bf16 w.1 = ((w.2 : ℝ) : EReal) := by
    intro w hw
    simp only [List.mem_cons, List.not_mem_nil, or_false] at hw
    rcases hw with rfl | rfl | rfl | rfl | rfl | rfl | rfl | rfl | rfl | rfl | rfl | rfl | rfl | rfl | rfl | rfl | rfl <;>
      · simp [Ideal.ofBits, Ideal.ieee, -EReal.coe_mul]
        try norm_num [-EReal.coe_mul]
  simp only [List.forall_mem_cons, List.not_mem_nil, false_imp_iff, implies_true, and_true] at h
  obtain ⟨h0, h1, h2, h3, h4, h5, h6, h7, h8, h9, h10, h11, h12, h13, h14, h15, h16⟩ := h
  simp only [codes, List.mem_cons, List.not_mem_nil, or_false] at hp
  rcases hp with rfl | rfl | rfl | rfl | rfl | rfl | rfl | rfl | rfl | rfl | rfl | rfl | rfl | rfl | rfl | rfl <;>
    · simp only [h0, h1, h2, h3, h4, h5, h6, h7, h8, h9, h10, h11, h12, h13, h14, h15, h16]
      rw [← EReal.coe_add, ← EReal.coe_sub, ← EReal.coe_strictMono.monotone.map_min, ← EReal.coe_mul]
      norm_num

/-- The kernel's scale word is the byte in the exponent field, and the subnormal `2 ^ -127` of a zero byte. -/
theorem scale_half : ∀ s : BitVec 8, ∀ q : Fin 2,
    half (scaleWord (s.setWidth 32)) q = if s = 0#8 then 0x0040#16 else (s.setWidth 16) <<< 7 := by
  decide +kernel

/-- The fields of such a word: sign clear, the byte as exponent, no fraction. -/
theorem scale_fields : ∀ s : BitVec 8,
    ((s.setWidth 16 <<< 7).extractLsb' (8 + 7) 1 == 1#1) = false ∧ ((s.setWidth 16 <<< 7).extractLsb' 7 8).toNat = s.toNat
      ∧ ((s.setWidth 16 <<< 7).extractLsb' 0 7).toNat = 0 := by
  decide +kernel

/-- The exponent of a scale byte as an integer. -/
theorem scaleExp_toInt : ∀ s : BitVec 8, (scaleExp s).toInt = (s.toNat : Int) - 127 := by
  decide +kernel

/-- The exponent is above the largest one exactly at the byte 255. -/
theorem scaleExp_sgt : ∀ s : BitVec 8, IntOp.cmpi .sgt (scaleExp s) 127#32 = if s = 255#8 then 1#1 else 0#1 := by
  decide +kernel

theorem ofBits_two : Ideal.ofBits .f32 0x40000000#32 = ((2 : ℝ) : EReal) := by
  simp [Ideal.ofBits, Ideal.ieee, -EReal.coe_mul]
  try norm_num [-EReal.coe_mul]

theorem ofBits_inf : Ideal.ofBits .f32 0x7F800000#32 = ⊤ := by
  simp [Ideal.ofBits, Ideal.ieee, -EReal.coe_mul]

/-- The value of a scale byte: infinity at 255, two to the unbiased exponent elsewhere. -/
theorem e8m0_eq (s : BitVec 8) : e8m0 s = if s = 255#8 then ⊤ else (((2 : ℝ) ^ ((s.toNat : Int) - 127) : ℝ) : EReal) := by
  unfold e8m0
  rw [scaleExp_sgt, ofBits_two, ofBits_inf, scaleExp_toInt]
  by_cases h : s = 255#8
  · rw [if_pos h, if_pos h]; rfl
  · rw [if_neg h, if_neg h]
    show (((2 : ℝ) ^ ((((s.toNat : Int) - 127 : Int) : ℝ)) : ℝ) : EReal) = _
    rw [Real.rpow_intCast]

/-- The kernel's scale words denote the scale. -/
theorem scale_value (s : BitVec 8) (q : Fin 2) : Ideal.ofBits .bf16 (half (scaleWord (s.setWidth 32)) q) = e8m0 s := by
  rw [scale_half, e8m0_eq]
  by_cases h0 : s = 0#8
  · subst h0
    simp [Ideal.ofBits, Ideal.ieee, -EReal.coe_mul]
    try norm_num [-EReal.coe_mul]
  · obtain ⟨hn, hx, hf⟩ := scale_fields s
    have hs0 : s.toNat ≠ 0 := fun h => h0 (BitVec.eq_of_toNat_eq h)
    have h255 : s = 255#8 ↔ s.toNat = 255 := ⟨fun h => by rw [h]; rfl, fun h => BitVec.eq_of_toNat_eq h⟩
    rw [if_neg h0]
    show Ideal.ieee 8 7 (s.setWidth 16 <<< 7) = _
    unfold Ideal.ieee
    simp only [hn, hx, hf]
    by_cases h : s = 255#8
    · rw [if_pos h, if_pos (by rw [h255.mp h]; rfl)]; simp
    · rw [if_neg h, if_neg (show ¬ s.toNat = 2 ^ 8 - 1 from fun e => h (h255.mpr e)), if_neg hs0]
      congr 1
      have e : (s.toNat : Int) - 127 = 7 + ((s.toNat : Int) - (2 ^ (8 - 1) - 1) - (7 : ℕ)) := by norm_num
      rw [e, zpow_add₀ (by norm_num : (2 : ℝ) ≠ 0)]
      norm_num

/-- The kernel's weight is the table's value times the scale, for every byte, half and scale byte. -/
theorem kernelWeight_eq (b s : BitVec 8) (q : Fin 2) :
    kernelWeight (half (magWord (b.setWidth 32)) q) (half (signWord (b.setWidth 32)) q) (half (scaleWord (s.setWidth 32)) q)
      = e2m1 (nibble b q) * e8m0 s := by
  unfold kernelWeight
  rw [scale_value, codes_value _ (mem_codes b q)]
  rfl

end Cert.Weights

end
-- ==== Proof.Decode.lean ====
/- What one block of the kernel's first region holds: row `2 h + q` of a decoded block is half `q` of the words the
   kernel builds from byte column `h`, so each entry is the weight of the mathematics. -/
module

public import proofs.«01_k».proof.Proof.Gen.KernelIdeal.Skeleton
public import Idealize.ShloMosaic.Lib.Pointwise
public import Idealize.ShloMosaic.Lib.BitcastPair
public import proofs.«01_k».proof.Proof.Weights

@[expose] public section

set_option maxRecDepth 16384

noncomputable section

namespace Cert.KernelIdeal.Gen

open Idealize.ShloMosaic Cert.Weights

/-- A `1440 × 256` array of words read as `2880 × 256` halves: row `n` is half `n % 2` of row `n / 2`. -/
theorem halves_apply (x : IVec S1440x256 32) (n : Fin 2880) (k : Fin 256) :
    bitcast S2880x256 16 x bitcasts_S1440x256_w32_S2880x256_w16 (ix2 n k)
      = half (x (ix2 ⟨n.val / 2, by omega⟩ k)) (n.val % 2) := by
  rw [bitcast_32_16]
  have hr : S2880x256.row (ix2 n k) = n.val := rfl
  unfold half
  have e : ∀ hp, bitcasts_S1440x256_w32_S2880x256_w16.srcIdx (ix2 n k) (S2880x256.row (ix2 n k) / 2) hp
      = ix2 (⟨n.val / 2, by omega⟩ : Fin 1440) k := by
    intro hp
    funext a
    fin_cases a <;> rfl
  rw [e, hr]

/-- The codes' words, transposed. -/
abbrev codeT (v0 : Vec Ideal S256x1440 .i8) : IVec S1440x256 32 :=
  transpose S1440x256 [1, 0] (extui 32 v0 natLt_8_32 : IVec S256x1440 32) transposes_S256x1440_p1_0_S1440x256

/-- The scales' words, transposed and repeated for the sixteen bytes each covers. -/
abbrev scaleT (v1 : Vec Ideal S256x90 .i8) : IVec S1440x256 32 :=
  shapeCast S1440x256 (broadcastTo S90x16x256 (shapeCast S90x1x256 (shapeCast S90x1x256
    ((fun i => scaleWord (transpose S90x256 [1, 0] (extui 32 v1 natLt_8_32 : IVec S256x90 32) transposes_S256x90_p1_0_S90x256 i) : IVec S90x256 32))
    shapeCasts_S90x256_S90x1x256) shapeCasts_S90x1x256_S90x1x256) broadcasts_S90x1x256_S90x16x256) shapeCasts_S90x16x256_S1440x256

/-- The magnitudes' words, element by element. -/
theorem mag_words (x : IVec S1440x256 32) :
    addi (andi (shli (ori x (shli x (broadcast S1440x256 12#32))) (broadcast S1440x256 6#32)) (broadcast S1440x256 29360576#32)) (broadcast S1440x256 1056980736#32)
      = fun i => magWord (x i) := rfl

/-- The signs' words, element by element. -/
theorem sign_words (x : IVec S1440x256 32) :
    ori (andi (shli (ori x (shli x (broadcast S1440x256 12#32))) (broadcast S1440x256 12#32)) (broadcast S1440x256 2147516416#32)) (broadcast S1440x256 1065369472#32)
      = fun i => signWord (x i) := rfl

/-- The scales' words, element by element. -/
theorem scale_words (x : IVec S90x256 32) :
    ori (maxsi (shli x (broadcast S90x256 7#32)) (broadcast S90x256 64#32)) (shli (maxsi (shli x (broadcast S90x256 7#32)) (broadcast S90x256 64#32)) (broadcast S90x256 16#32))
      = fun i => scaleWord (x i) := rfl

/-- The arithmetic on the words, element by element. -/
theorem weight_words (a b c : IVec S2880x256 16) (j : S2880x256.Idx) :
    (mulf (mulf (minimumf (bitcastToFloat .bf16 a) (subf (addf (bitcastToFloat .bf16 a) (bitcastToFloat .bf16 a)) (broadcast S2880x256 (Scalar.ofBits .bf16 0x3F80#16))))
      (bitcastToFloat .bf16 b)) (bitcastToFloat .bf16 c) : FVec Ideal S2880x256 .bf16) j = kernelWeight (a j) (b j) (c j) := rfl

/-- The decoded block is built from the halves of three arrays of words. -/
theorem k0_pay1_words (v0 : Vec Ideal S256x1440 .i8) (v1 : Vec Ideal S256x90 .i8) (j : S2880x256.Idx) :
    k0_pay1 v0 v1 j = kernelWeight
      (bitcast S2880x256 16 (fun i => magWord (codeT v0 i) : IVec S1440x256 32) bitcasts_S1440x256_w32_S2880x256_w16 j)
      (bitcast S2880x256 16 (fun i => signWord (codeT v0 i) : IVec S1440x256 32) bitcasts_S1440x256_w32_S2880x256_w16 j)
      (bitcast S2880x256 16 (scaleT v1) bitcasts_S1440x256_w32_S2880x256_w16 j) := by
  rw [← weight_words, ← mag_words, ← sign_words]
  unfold k0_pay1 scaleT
  rw [← scale_words]

theorem codeT_apply (v0 : Vec Ideal S256x1440 .i8) (h : Fin 1440) (k : Fin 256) :
    codeT v0 (ix2 h k) = (v0 (ix2 k h)).setWidth 32 := by
  unfold codeT
  pointwise

theorem scaleT_apply (v1 : Vec Ideal S256x90 .i8) (h : Fin 1440) (k : Fin 256) :
    scaleT v1 (ix2 h k) = scaleWord ((v1 (ix2 k ⟨h.val / 16, by omega⟩)).setWidth 32) := by
  unfold scaleT
  pointwise

/-- A decoded block at row `n` and column `k`: the code of row `k`'s byte `n / 2`, the half by `n`'s parity, times
    the scale of that byte's group of sixteen. -/
theorem k0_pay1_apply (v0 : Vec Ideal S256x1440 .i8) (v1 : Vec Ideal S256x90 .i8) (n : Fin 2880) (k : Fin 256) :
    k0_pay1 v0 v1 (ix2 n k)
      = e2m1 (nibble (v0 (ix2 k ⟨n.val / 2, by omega⟩)) ⟨n.val % 2, by omega⟩)
        * e8m0 (v1 (ix2 k ⟨n.val / 32, by omega⟩)) := by
  rw [k0_pay1_words, halves_apply, halves_apply, halves_apply, codeT_apply, scaleT_apply]
  have e : (⟨(⟨n.val / 2, by omega⟩ : Fin 1440).val / 16, by omega⟩ : Fin 90) = ⟨n.val / 32, by omega⟩ := by
    apply Fin.ext
    show n.val / 2 / 16 = n.val / 32
    omega
  rw [← kernelWeight_eq, e]

end Cert.KernelIdeal.Gen

end
-- ==== Proof.WtArray.lean ====
/- The array the kernel's first region leaves: the weights, transposed, row `n` of it the output column `n`. -/
module

public import proofs.«01_k».proof.Proof.Gen.KernelIdeal.Frame
public import Idealize.ShloMosaic.Lib.Pipeline.ValueKit
public import proofs.«01_k».proof.Proof.Decode

@[expose] public section

set_option maxRecDepth 16384

noncomputable section

namespace Cert.KernelIdeal.Gen

open Idealize.ShloMosaic Idealize.ShloMosaic.TcCoe Idealize.SL.Sem
open Idealize.ShloMosaic.Pipeline (Dat)
open Cert.Weights

/-- The weight at output column `n` of row `k`: the code of byte `n / 2`, its half by `n`'s parity, times the scale
    of the byte's group. -/
def weight (C : Vec Ideal S7680x1440 .i8) (S : Vec Ideal S7680x90 .i8) (n : Fin 2880) (k : Fin 7680) : EReal :=
  e2m1 (nibble (C (ix2 k ⟨n.val / 2, by omega⟩)) ⟨n.val % 2, by omega⟩) * e8m0 (S (ix2 k ⟨n.val / 32, by omega⟩))

/-- The weights as the array the first region writes. -/
def WT (C : Vec Ideal S7680x1440 .i8) (S : Vec Ideal S7680x90 .i8) : FVec Ideal S2880x7680 .bf16 :=
  fun j => weight C S (j 0) (j 1)

/-- Where the first region's blocks stand, at every grid point. -/
theorem idx0 : ∀ t : Fin cfg0.N, win0_0.index t = ![t.val, 0] ∧ win0_1.index t = ![t.val, 0] ∧ win0_2.index t = ![0, t.val] :=
  (by decide +kernel : ∀ t : Fin grid0.N, _)

variable (V : (c : Dev nD) → (b : Ref sig .tc) → Buf (Elt Ideal) ((c : Thread nD τ).loc b))

/-- One entry of one decoded block is the weight at the place where the block stands. -/
theorem decode_point (c : Dev nD) (t : Fin cfg0.N) (n : Fin 2880) (k : Fin 256) (k' : Fin 7680) (hk : k'.val = t.val * 256 + k.val) :
    k0_pay1 (iblk0 V c 0 t) (iblk0 V c 1 t) (ix2 n k) = weight (V c main_arg1) (V c main_arg2) n k' := by
  rw [k0_pay1_apply]
  unfold weight
  have e1 : ∀ h : Fin 1440, iblk0 V c 0 t (ix2 k h) = V c main_arg1 (ix2 k' h) := by
    intro h
    blk_ext [iblk0, idx0 t]
  have e2 : ∀ h : Fin 90, iblk0 V c 1 t (ix2 k h) = V c main_arg2 (ix2 k' h) := by
    intro h
    blk_ext [iblk0, idx0 t]
  rw [e1, e2]

/-- The array after the first region. -/
theorem wt_array (c : Dev nD) : (dat0 V c).arrAt 2 cfg0.N = WT (V c main_arg1) (V c main_arg2) := by
  refine (dat0 V c).arrAt_eq_of_covers 2 _ (by decide +kernel) fun t _ y => ?_
  blk_simp
  rw [after0_2]
  frame_out
  idx_vars y
  have ht : t.val < 30 := t.isLt
  have e : ((View.whole main_v0).slice (win0_2.rect t)).emb (ix2 y0 y1) = ix2 y0 (⟨t.val * 256 + y1.val, by omega⟩ : Fin 7680) := by
    blk_ext [idx0 t]
  rw [e]
  exact decode_point V c t y0 y1 _ rfl

end Cert.KernelIdeal.Gen

end
-- ==== Proof.Dgrad.lean ====
/- What one block of the kernel's second region holds: six products of row tiles of the weights with one block of
   `dy`, transposed and stored side by side. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe Idealize.SL.Sem
open Idealize.ShloMosaic.Pipeline (Dat)

/-- A product of 512 rows, transposed. -/
theorem pay4_apply (w : Vec Ideal S512x7680 .bf16) (d : Vec Ideal S256x7680 .bf16) (r : Fin 256) (n : Fin 512) :
    k1_pay4 w d (ix2 r n) = ∑ k : Fin 7680, w (ix2 n k) * d (ix2 r k) := by
  pointwise [k1_pay4]

theorem pay5_apply (w : Vec Ideal S512x7680 .bf16) (d : Vec Ideal S256x7680 .bf16) (r : Fin 256) (n : Fin 512) :
    k1_pay5 w d (ix2 r n) = ∑ k : Fin 7680, w (ix2 n k) * d (ix2 r k) := pay4_apply w d r n

theorem pay6_apply (w : Vec Ideal S512x7680 .bf16) (d : Vec Ideal S256x7680 .bf16) (r : Fin 256) (n : Fin 512) :
    k1_pay6 w d (ix2 r n) = ∑ k : Fin 7680, w (ix2 n k) * d (ix2 r k) := pay4_apply w d r n

theorem pay7_apply (w : Vec Ideal S512x7680 .bf16) (d : Vec Ideal S256x7680 .bf16) (r : Fin 256) (n : Fin 512) :
    k1_pay1 (k1_pay7 w d) (ix2 r n) = ∑ k : Fin 7680, w (ix2 n k) * d (ix2 r k) := pay4_apply w d r n

theorem pay2_apply (w : Vec Ideal S512x7680 .bf16) (d : Vec Ideal S256x7680 .bf16) (r : Fin 256) (n : Fin 512) :
    k1_pay2 w d (ix2 r n) = ∑ k : Fin 7680, w (ix2 n k) * d (ix2 r k) := pay4_apply w d r n

/-- The last product, of 320 rows. -/
theorem pay3_apply (w : Vec Ideal S320x7680 .bf16) (d : Vec Ideal S256x7680 .bf16) (r : Fin 256) (n : Fin 320) :
    k1_pay3 w d (ix2 r n) = ∑ k : Fin 7680, w (ix2 n k) * d (ix2 r k) := by
  pointwise [k1_pay3]

/-- The six stores fill the block. -/
theorem tiles_cover (p0 : Vec Ideal S256x320 .bf16) (p1 : Vec Ideal S256x512 .bf16) (p2 : Vec Ideal S256x512 .bf16) (p3 : Vec Ideal S256x512 .bf16) (p4 : Vec Ideal S256x512 .bf16) (p5 : Vec Ideal S256x512 .bf16) (y : S256x2880.Idx) :
    ∃ p ∈ ([⟨Rect.unit (s := S256x2880) ![0, 2560] ![256, 320] inb_S256x2880_S256x320_0_2560, p0⟩,
      ⟨Rect.unit (s := S256x2880) ![0, 2048] ![256, 512] inb_S256x2880_S256x512_0_2048, p1⟩,
      ⟨Rect.unit (s := S256x2880) ![0, 1536] ![256, 512] inb_S256x2880_S256x512_0_1536, p2⟩,
      ⟨Rect.unit (s := S256x2880) ![0, 1024] ![256, 512] inb_S256x2880_S256x512_0_1024, p3⟩,
      ⟨Rect.unit (s := S256x2880) ![0, 512] ![256, 512] inb_S256x2880_S256x512_0_512, p4⟩,
      ⟨Rect.unit (s := S256x2880) ![0, 0] ![256, 512] inb_S256x2880_S256x512_0_0, p5⟩] :
      List (View.Piece (Elt Ideal) S256x2880 .bf16)), y ∈ p.1.set :=
  View.cover_of_tiledBy _ ![256, 64] (by sl_kernel_rfl) y

variable (V : (c : Dev nD) → (b : Ref sig .tc) → Buf (Elt Ideal) ((c : Thread nD τ).loc b))

/-- The block as a whole: row `r` of `dy` against row `n` of the weights. -/
def dxBlock (x0 : FVec Ideal S256x7680 .bf16) (x1 : FVec Ideal S2880x7680 .bf16) : FVec Ideal S256x2880 .bf16 :=
  fun j => ∑ k : Fin 7680, x1 (ix2 (j 1) k) * x0 (ix2 (j 0) k)

/-- An index of a two-axis array is a pair. -/
theorem ix2_exists {a b : ℕ} (x : (⟨2, ![a, b]⟩ : Shape).Idx) : ∃ (r : Fin a) (n : Fin b), x = ix2 r n :=
  ⟨x 0, x 1, funext fun a => by fin_cases a <;> rfl⟩

/-- The tile lemma: a sum over a tile's loaded row is the block's entry, when the tile's row is that row. -/
theorem dxBlock_tile {N : ℕ} (x0 : FVec Ideal S256x7680 .bf16) (x1 : FVec Ideal S2880x7680 .bf16) (y : S256x2880.Idx) (r : Fin 256) (n : Fin N)
    (h0 : (y 0).val = r.val) (w : (⟨2, ![N, 7680]⟩ : Shape).Idx → EReal) (hw : ∀ k : Fin 7680, w (ix2 n k) = x1 (ix2 (y 1) k)) :
    (∑ k : Fin 7680, w (ix2 n k) * x0 (ix2 r k)) = dxBlock x0 x1 y := by
  unfold dxBlock
  have e : y 0 = r := Fin.ext h0
  rw [e]
  exact Finset.sum_congr rfl fun k _ => by rw [hw k]

/-- Every entry of the block after the body. -/
theorem outsAt1_apply (c : Dev nD) (t : Fin cfg1.N) (y : S256x2880.Idx) :
    outsAt1 V c t y = dxBlock (iblk1 V c 0 t) (iblk1 V c 1 t) y := by
  unfold outsAt1 out1_A_2
  frame_out
  generalize (iblk1 V c 0 t) = x0
  generalize (iblk1 V c 1 t) = x1
  canon_tiles x h using tiles_cover _ _ _ _ _ _ y
  all_goals obtain ⟨r, n, rfl⟩ := ix2_exists x
  · exact (pay3_apply _ _ _ _).trans (dxBlock_tile x0 x1 y r n h0 _ fun k => View.ld_unit_apply_of _ _ _ _ _ _ fun a => by
      fin_cases a
      · exact h1
      · exact (Nat.zero_add _).symm)
  · exact (pay2_apply _ _ _ _).trans (dxBlock_tile x0 x1 y r n h0 _ fun k => View.ld_unit_apply_of _ _ _ _ _ _ fun a => by
      fin_cases a
      · exact h1
      · exact (Nat.zero_add _).symm)
  · exact (pay7_apply _ _ _ _).trans (dxBlock_tile x0 x1 y r n h0 _ fun k => View.ld_unit_apply_of _ _ _ _ _ _ fun a => by
      fin_cases a
      · exact h1
      · exact (Nat.zero_add _).symm)
  · exact (pay6_apply _ _ _ _).trans (dxBlock_tile x0 x1 y r n h0 _ fun k => View.ld_unit_apply_of _ _ _ _ _ _ fun a => by
      fin_cases a
      · exact h1
      · exact (Nat.zero_add _).symm)
  · exact (pay5_apply _ _ _ _).trans (dxBlock_tile x0 x1 y r n h0 _ fun k => View.ld_unit_apply_of _ _ _ _ _ _ fun a => by
      fin_cases a
      · exact h1
      · exact (Nat.zero_add _).symm)
  · exact (pay4_apply _ _ _ _).trans (dxBlock_tile x0 x1 y r n h0 _ fun k => View.ld_unit_apply_of _ _ _ _ _ _ fun a => by
      fin_cases a
      · exact h1.trans (Nat.zero_add _).symm
      · exact (Nat.zero_add _).symm)

end Cert.KernelIdeal.Gen

end
-- ==== Proof.OutArray.lean ====
/- What the kernel's program leaves in its result array: the second region's blocks side by side are the whole
   product, and the host's reshapes before and after only rename the rows. -/
module

public import proofs.«01_k».proof.Proof.WtArray
public import proofs.«01_k».proof.Proof.Dgrad

@[expose] public section

set_option maxRecDepth 16384

noncomputable section

namespace Cert.KernelIdeal.Gen

open Idealize.ShloMosaic Idealize.ShloMosaic.TcCoe Idealize.SL.Sem
open Idealize.ShloMosaic.Pipeline (Dat)
open Cert.Weights

/-- Where the second region's blocks stand, at every grid point. -/
theorem idx1 : ∀ t : Fin cfg1.N, win1_0.index t = ![t.val, 0] ∧ win1_1.index t = ![0, 0] ∧ win1_2.index t = ![t.val, 0] :=
  (by decide +kernel : ∀ t : Fin grid1.N, _)

/-- The product as the array the second region writes. -/
def DX (d : FVec Ideal S24576x7680 .bf16) (w : FVec Ideal S2880x7680 .bf16) : FVec Ideal S24576x2880 .bf16 :=
  fun j => ∑ k : Fin 7680, w (ix2 (j 1) k) * d (ix2 (j 0) k)

section
variable (V : (c : Dev nD) → (b : Ref sig .tc) → Buf (Elt Ideal) ((c : Thread nD τ).loc b))

/-- The array after the second region. -/
theorem dx_array (c : Dev nD) : (dat1 V c).arrAt 2 cfg1.N = DX (V c main_v1) (V c main_v0) := by
  refine (dat1 V c).arrAt_eq_of_covers 2 _ (by decide +kernel) fun t _ y => ?_
  blk_simp
  rw [after1_2]
  refine (outsAt1_apply V c t y).trans ?_
  idx_vars y
  have ht : t.val < 96 := t.isLt
  have e : ((View.whole main_v2).slice (win1_2.rect t)).emb (ix2 y0 y1) = ix2 (⟨t.val * 256 + y0.val, by omega⟩ : Fin 24576) y1 := by
    blk_ext [idx1 t]
  rw [e]
  unfold dxBlock DX
  refine Finset.sum_congr rfl fun k _ => ?_
  have e1 : ∀ k : Fin 7680, iblk1 V c 1 t (ix2 y1 k) = V c main_v0 (ix2 y1 k) := by
    intro k
    blk_ext [iblk1, idx1 t]
  have e0 : ∀ k : Fin 7680, iblk1 V c 0 t (ix2 y0 k) = V c main_v1 (ix2 (⟨t.val * 256 + y0.val, by omega⟩ : Fin 24576) k) := by
    intro k
    blk_ext [iblk1, idx1 t]
  exact congrArg₂ (· * ·) (e1 k) (e0 k)
end

variable (m : (ℓ : Loc nD τ sig) → Buf (Elt Ideal) ℓ) (ρ : Dev nD → PrngReg)

/-- The kernel's result, of its arguments. -/
def result (d : FVec Ideal S24x1024x7680 .bf16) (C : Vec Ideal S7680x1440 .i8) (S : Vec Ideal S7680x90 .i8) : FVec Ideal S24x1024x2880 .bf16 :=
  fun j => ∑ k : Fin 7680, weight C S (j 2) k * d (ix3 (j 0) (j 1) k)

/-- The weights' array when the second region starts. -/
theorem W2_main_v0 (c : Dev nD) : W2 m ρ c (Proc.devRef .tc main_v0)
    = WT (m ((c : Thread nD τ).loc main_arg1)) (m ((c : Thread nD τ).loc main_arg2)) :=
  (W2_of m ρ c main_v0 (by decide)).trans ((W1_arr m ρ c 2).trans (wt_array (V0 m ρ) c))

/-- `dy` as the second region reads it: the reshaped argument. -/
theorem W2_main_v1 (c : Dev nD) : W2 m ρ c (Proc.devRef .tc main_v1)
    = (shapeCast S24576x7680 (m ((c : Thread nD τ).loc main_arg0) : FVec Ideal S24x1024x7680 .bf16) shapeCasts_S24x1024x7680_S24576x7680 : FVec Ideal S24576x7680 .bf16) := by
  rw [← W1_args m ρ c main_arg0 (by decide)]
  rfl

/-- The second region's result array. -/
theorem W3_main_v2 (c : Dev nD) : W3 m ρ c (Proc.devRef .tc main_v2)
    = DX (W2 m ρ c (Proc.devRef .tc main_v1)) (W2 m ρ c (Proc.devRef .tc main_v0)) :=
  (W3_arr m ρ c 2).trans (dx_array (V2 m ρ) c)

/-- The result array is the second region's, reshaped. -/
theorem W4_main_v3 (c : Dev nD) : W4 m ρ c (Proc.devRef .tc main_v3)
    = (shapeCast S24x1024x2880 (W3 m ρ c (Proc.devRef .tc main_v2) : FVec Ideal S24576x2880 .bf16) shapeCasts_S24576x2880_S24x1024x2880 : FVec Ideal S24x1024x2880 .bf16) := rfl

/-- Reshaping the operand and the product back leaves the product over the named rows. -/
theorem reshape_DX (d : FVec Ideal S24x1024x7680 .bf16) (C : Vec Ideal S7680x1440 .i8) (S : Vec Ideal S7680x90 .i8) :
    shapeCast S24x1024x2880 (DX (shapeCast S24576x7680 d shapeCasts_S24x1024x7680_S24576x7680) (WT C S)) shapeCasts_S24576x2880_S24x1024x2880
      = result d C S := by
  funext j
  idx_vars j
  pointwise [DX, result, WT]

/-- The kernel's result array, of the arguments. -/
theorem kernel_value (c : Dev nD) : W4 m ρ c (Proc.devRef .tc main_v3)
    = result (m ((c : Thread nD τ).loc main_arg0)) (m ((c : Thread nD τ).loc main_arg1)) (m ((c : Thread nD τ).loc main_arg2)) := by
  rw [W4_main_v3, W3_main_v2, W2_main_v0, W2_main_v1]
  exact reshape_DX _ _ _

end Cert.KernelIdeal.Gen

end
-- ==== Proof.RefValue.lean ====
/- What the reference computes: each output column is `dy` against a column of weights, even columns from the low
   codes and odd columns from the high ones. -/
module

public import proofs.«01_k».proof.Proof.Gen.ReferenceIdeal.Run
public import Idealize.ShloMosaic.Lib.Pointwise
public import proofs.«01_k».proof.Proof.Weights

@[expose] public section

set_option maxRecDepth 16384

noncomputable section

namespace Cert.ReferenceIdeal.Value

open Idealize.ShloMosaic Idealize.ShloMosaic.TcCoe Idealize.ShloMosaic.StableHlo Idealize.SL.Sem
open Cert.ReferenceIdeal Cert.ReferenceIdeal.Gen
open Cert.Weights

/-! ## The decoded codes -/

/-- Bit `k` of every code. -/
abbrev flag (c : IVec S7680x1440 32) (k : BitVec 32) : IVec S7680x1440 1 :=
  cmpi .ne (andi c (broadcastInDim S7680x1440 ![] bcast_S_S7680x1440 (constantI S_ 32 k))) (broadcastInDim S7680x1440 ![] bcast_S_S7680x1440 (constantI S_ 32 0#32))

/-- One value everywhere. -/
abbrev fill (w : BitVec 16) : FVec Ideal S7680x1440 .bf16 :=
  broadcastInDim S7680x1440 ![] bcast_S_S7680x1440 (constant S_ .bf16 w)

/-- The reference's decoding of an array of codes. -/
def decode (c : IVec S7680x1440 32) : FVec Ideal S7680x1440 .bf16 :=
  select (flag c 8#32) (select (flag c 4#32) (select (flag c 2#32) (select (flag c 1#32) (fill 0xC0C0#16) (fill 0xC080#16)) (select (flag c 1#32) (fill 0xC040#16) (fill 0xC000#16))) (select (flag c 2#32) (select (flag c 1#32) (fill 0xBFC0#16) (fill 0xBF80#16)) (select (flag c 1#32) (fill 0xBF00#16) (fill 0x8000#16)))) (select (flag c 4#32) (select (flag c 2#32) (select (flag c 1#32) (fill 0x40C0#16) (fill 0x4080#16)) (select (flag c 1#32) (fill 0x4040#16) (fill 0x4000#16))) (select (flag c 2#32) (select (flag c 1#32) (fill 0x3FC0#16) (fill 0x3F80#16)) (select (flag c 1#32) (fill 0x3F00#16) (fill 0x0000#16))))

/-- A choice between two words' values is the value of the chosen word. -/
theorem select_ofBits (b : BitVec 1) (x y : BitVec 16) :
    (Scalar.select b (Ideal.ofBits .bf16 x) (Ideal.ofBits .bf16 y) : EReal) = Ideal.ofBits .bf16 (Scalar.select b x y) := by
  unfold Scalar.select
  split_ifs <;> rfl

/-- The reference decodes element by element, to the table's values. -/
theorem decode_apply (c : IVec S7680x1440 32) (j : S7680x1440.Idx) : decode c j = e2m1 (c j) := by
  have hf : ∀ k, flag c k j = hasBit (c j) k := fun _ => rfl
  have hw : ∀ w, fill w j = Ideal.ofBits .bf16 w := fun _ => rfl
  have hs : ∀ (b : IVec S7680x1440 1) (x y : FVec Ideal S7680x1440 .bf16), select b x y j = (Scalar.select (b j) (x j) (y j) : EReal) := fun _ _ _ => rfl
  unfold decode e2m1 e2m1Word
  simp only [hs, hf, hw, select_ofBits]

/-! ## The weights -/

/-- The reference's weights: the decoded codes, each sixteen of a row by their scale. -/
def weights (c : IVec S7680x1440 32) (s : FVec Ideal S7680x90 .bf16) : FVec Ideal S7680x1440 .bf16 :=
  shapeCast _ (mulf (shapeCast _ (decode c) shapeCasts_S7680x1440_S7680x90x16) (broadcastInDim S7680x90x16 ![0, 1, 2] bcast_S7680x90x1_S7680x90x16_0_1_2 (broadcastInDim S7680x90x1 ![0, 1] bcast_S7680x90_S7680x90x1_0_1 s))) shapeCasts_S7680x90x16_S7680x1440

theorem weights_apply (c : IVec S7680x1440 32) (s : FVec Ideal S7680x90 .bf16) (k : Fin 7680) (h : Fin 1440) :
    weights c s (ix2 k h) = (e2m1 (c (ix2 k h)) * s (ix2 k ⟨h.val / 16, by omega⟩) : EReal) := by
  rw [← decode_apply]
  unfold weights
  pointwise

variable (V0 : Valuation τ sig (Elt Ideal))

/-- The low codes. -/
theorem v2_apply (j : S7680x1440.Idx) : res_main_v2 V0 j = nibble ((V0 (Proc.devRef .tc main_arg1) : Vec Ideal S7680x1440 .i8) j) 0 := rfl

/-- The high codes. -/
theorem v4_apply (j : S7680x1440.Idx) : res_main_v4 V0 j = nibble ((V0 (Proc.devRef .tc main_arg1) : Vec Ideal S7680x1440 .i8) j) 1 := rfl

/-- The scales. -/
theorem v14_apply (j : S7680x90.Idx) : res_main_v14 V0 j = e8m0 ((V0 (Proc.devRef .tc main_arg2) : Vec Ideal S7680x90 .i8) j) := rfl

/-! ## The result -/

/-- Two products side by side in a new last axis. -/
def stacked (d : FVec Ideal S24x1024x7680 .bf16) (x y : FVec Ideal S7680x1440 .bf16) : FVec Ideal S24x1024x1440x2 .f32 :=
  concatenate S24x1024x1440x2 3
    [⟨S24x1024x1440x1, broadcastInDim S24x1024x1440x1 ![0, 1, 2] bcast_S24x1024x1440_S24x1024x1440x1_0_1_2 (Host.dotGeneral dot_S24x1024x7680_S7680x1440_S24x1024x1440_2_0_01_1_n_n none d x)⟩,
     ⟨S24x1024x1440x1, broadcastInDim S24x1024x1440x1 ![0, 1, 2] bcast_S24x1024x1440_S24x1024x1440x1_0_1_2 (Host.dotGeneral dot_S24x1024x7680_S7680x1440_S24x1024x1440_2_0_01_1_n_n none d y)⟩]
    concatenates_S24x1024x1440x1_S24x1024x1440x1_S24x1024x1440x2_d3

/-- The decoded low codes are the printed choices. -/
theorem decode_v2 : decode (res_main_v2 V0) = select (cmpi .ne (andi (res_main_v2 V0) (broadcastInDim S7680x1440 ![] bcast_S_S7680x1440 (constantI S_ 32 8#32))) (broadcastInDim S7680x1440 ![] bcast_S_S7680x1440 (constantI S_ 32 0#32))) (select (res_main_v22 V0) (select (res_main_v26 V0) (select (res_main_v30 V0) (broadcastInDim S7680x1440 ![] bcast_S_S7680x1440 (constant S_ .bf16 0xC0C0#16)) (broadcastInDim S7680x1440 ![] bcast_S_S7680x1440 (constant S_ .bf16 0xC080#16))) (select (res_main_v30 V0) (broadcastInDim S7680x1440 ![] bcast_S_S7680x1440 (constant S_ .bf16 0xC040#16)) (broadcastInDim S7680x1440 ![] bcast_S_S7680x1440 (constant S_ .bf16 0xC000#16)))) (select (res_main_v26 V0) (select (res_main_v30 V0) (broadcastInDim S7680x1440 ![] bcast_S_S7680x1440 (constant S_ .bf16 0xBFC0#16)) (broadcastInDim S7680x1440 ![] bcast_S_S7680x1440 (constant S_ .bf16 0xBF80#16))) (select (res_main_v30 V0) (broadcastInDim S7680x1440 ![] bcast_S_S7680x1440 (constant S_ .bf16 0xBF00#16)) (broadcastInDim S7680x1440 ![] bcast_S_S7680x1440 (constant S_ .bf16 0x8000#16))))) (select (res_main_v22 V0) (select (res_main_v26 V0) (select (res_main_v30 V0) (broadcastInDim S7680x1440 ![] bcast_S_S7680x1440 (constant S_ .bf16 0x40C0#16)) (broadcastInDim S7680x1440 ![] bcast_S_S7680x1440 (constant S_ .bf16 0x4080#16))) (select (res_main_v30 V0) (broadcastInDim S7680x1440 ![] bcast_S_S7680x1440 (constant S_ .bf16 0x4040#16)) (broadcastInDim S7680x1440 ![] bcast_S_S7680x1440 (constant S_ .bf16 0x4000#16)))) (select (res_main_v26 V0) (select (res_main_v30 V0) (broadcastInDim S7680x1440 ![] bcast_S_S7680x1440 (constant S_ .bf16 0x3FC0#16)) (broadcastInDim S7680x1440 ![] bcast_S_S7680x1440 (constant S_ .bf16 0x3F80#16))) (select (res_main_v30 V0) (broadcastInDim S7680x1440 ![] bcast_S_S7680x1440 (constant S_ .bf16 0x3F00#16)) (broadcastInDim S7680x1440 ![] bcast_S_S7680x1440 (constant S_ .bf16 0x0000#16))))) := by
  unfold decode res_main_v22 res_main_v26 res_main_v30
  rfl

/-- The decoded high codes are the printed choices. -/
theorem decode_v4 : decode (res_main_v4 V0) = select (cmpi .ne (andi (res_main_v4 V0) (broadcastInDim S7680x1440 ![] bcast_S_S7680x1440 (constantI S_ 32 8#32))) (broadcastInDim S7680x1440 ![] bcast_S_S7680x1440 (constantI S_ 32 0#32))) (select (res_main_v58 V0) (select (res_main_v62 V0) (select (res_main_v66 V0) (broadcastInDim S7680x1440 ![] bcast_S_S7680x1440 (constant S_ .bf16 0xC0C0#16)) (broadcastInDim S7680x1440 ![] bcast_S_S7680x1440 (constant S_ .bf16 0xC080#16))) (select (res_main_v66 V0) (broadcastInDim S7680x1440 ![] bcast_S_S7680x1440 (constant S_ .bf16 0xC040#16)) (broadcastInDim S7680x1440 ![] bcast_S_S7680x1440 (constant S_ .bf16 0xC000#16)))) (select (res_main_v62 V0) (select (res_main_v66 V0) (broadcastInDim S7680x1440 ![] bcast_S_S7680x1440 (constant S_ .bf16 0xBFC0#16)) (broadcastInDim S7680x1440 ![] bcast_S_S7680x1440 (constant S_ .bf16 0xBF80#16))) (select (res_main_v66 V0) (broadcastInDim S7680x1440 ![] bcast_S_S7680x1440 (constant S_ .bf16 0xBF00#16)) (broadcastInDim S7680x1440 ![] bcast_S_S7680x1440 (constant S_ .bf16 0x8000#16))))) (select (res_main_v58 V0) (select (res_main_v62 V0) (select (res_main_v66 V0) (broadcastInDim S7680x1440 ![] bcast_S_S7680x1440 (constant S_ .bf16 0x40C0#16)) (broadcastInDim S7680x1440 ![] bcast_S_S7680x1440 (constant S_ .bf16 0x4080#16))) (select (res_main_v66 V0) (broadcastInDim S7680x1440 ![] bcast_S_S7680x1440 (constant S_ .bf16 0x4040#16)) (broadcastInDim S7680x1440 ![] bcast_S_S7680x1440 (constant S_ .bf16 0x4000#16)))) (select (res_main_v62 V0) (select (res_main_v66 V0) (broadcastInDim S7680x1440 ![] bcast_S_S7680x1440 (constant S_ .bf16 0x3FC0#16)) (broadcastInDim S7680x1440 ![] bcast_S_S7680x1440 (constant S_ .bf16 0x3F80#16))) (select (res_main_v66 V0) (broadcastInDim S7680x1440 ![] bcast_S_S7680x1440 (constant S_ .bf16 0x3F00#16)) (broadcastInDim S7680x1440 ![] bcast_S_S7680x1440 (constant S_ .bf16 0x0000#16))))) := by
  unfold decode res_main_v58 res_main_v62 res_main_v66
  rfl

/-- The reference's stacked products are those of the weights of the low codes and of the high codes. -/
theorem v91_eq : res_main_v91 V0 = stacked (V0 (Proc.devRef .tc main_arg0))
    (weights (res_main_v2 V0) (res_main_v14 V0)) (weights (res_main_v4 V0) (res_main_v14 V0)) := by
  unfold stacked weights
  rw [decode_v2, decode_v4]
  rfl

/-- The stacked products as one row: column `n` is column `n / 2` of the first product or of the second. -/
theorem stacked_apply (d : FVec Ideal S24x1024x7680 .bf16) (x y : FVec Ideal S7680x1440 .bf16) (a : Fin 24) (b : Fin 1024) (n : Fin 2880) :
    (truncf .bf16 (shapeCast S24x1024x2880 (stacked d x y) shapeCasts_S24x1024x1440x2_S24x1024x2880) bitsLt_bf16_f32 : FVec Ideal S24x1024x2880 .bf16) (ix3 a b n)
      = (∑ k : Fin 7680, d (ix3 a b k) * (if n.val % 2 = 0 then x else y) (ix2 k ⟨n.val / 2, by omega⟩) : EReal) := by
  unfold stacked
  pointwise
  by_cases h : n.val % 2 = 0
  · rw [dif_pos (by omega), if_pos h]
  · rw [dif_neg (by omega), if_neg h]

end Cert.ReferenceIdeal.Value

end
-- ==== Proof.Equation.lean ====
/- The equation: the reference's result is the kernel's, entry by entry. Both are the sum over the rows of the
   weights of `dy` times weight, the factors in the other order. -/
module

public import proofs.«01_k».proof.Proof.OutArray
public import proofs.«01_k».proof.Proof.RefValue

@[expose] public section

set_option maxRecDepth 16384

noncomputable section

namespace Cert.Equation

open Idealize.ShloMosaic Idealize.ShloMosaic.TcCoe Idealize.ShloMosaic.StableHlo Idealize.SL.Sem
open Cert.ReferenceIdeal Cert.ReferenceIdeal.Gen Cert.ReferenceIdeal.Value
open Cert.Weights

variable (V0 : Valuation τ sig (Elt Ideal))

/-- The reference's weight for column `n` of row `k` is the kernel's. -/
theorem weight_eq (n : Fin 2880) (k : Fin 7680) :
    (if n.val % 2 = 0 then weights (res_main_v2 V0) (res_main_v14 V0) else weights (res_main_v4 V0) (res_main_v14 V0)) (ix2 k ⟨n.val / 2, by omega⟩)
      = Cert.KernelIdeal.Gen.weight (V0 (Proc.devRef .tc main_arg1)) (V0 (Proc.devRef .tc main_arg2)) n k := by
  have e : (⟨(⟨n.val / 2, by omega⟩ : Fin 1440).val / 16, by omega⟩ : Fin 90) = ⟨n.val / 32, by omega⟩ := by
    apply Fin.ext
    show n.val / 2 / 16 = n.val / 32
    omega
  unfold Cert.KernelIdeal.Gen.weight
  by_cases h : n.val % 2 = 0
  · rw [if_pos h, weights_apply, v2_apply, v14_apply, e]
    have q : (⟨n.val % 2, by omega⟩ : Fin 2) = 0 := Fin.ext h
    rw [q]
  · rw [if_neg h, weights_apply, v4_apply, v14_apply, e]
    have q : (⟨n.val % 2, by omega⟩ : Fin 2) = 1 := Fin.ext (by show n.val % 2 = 1; omega)
    rw [q]

/-- The reference's result is the kernel's. -/
theorem reference_value :
    (truncf .bf16 (shapeCast S24x1024x2880 (res_main_v91 V0) shapeCasts_S24x1024x1440x2_S24x1024x2880) bitsLt_bf16_f32 : FVec Ideal S24x1024x2880 .bf16)
      = Cert.KernelIdeal.Gen.result (V0 (Proc.devRef .tc main_arg0)) (V0 (Proc.devRef .tc main_arg1)) (V0 (Proc.devRef .tc main_arg2)) := by
  funext j
  idx_vars j
  rw [v91_eq]
  refine (stacked_apply _ _ _ j0 j1 j2).trans ?_
  unfold Cert.KernelIdeal.Gen.result
  refine Finset.sum_congr rfl fun k _ => ?_
  rw [weight_eq]
  exact mul_comm _ _

end Cert.Equation

end
-- ==== Proof.lean ====
/- The five claims, assembled. The kernel (as printed, and at the ideal instance) and the reference run to the end,
   leave their arguments as they were and every semaphore counter at zero; the idealization rewrote nothing; and at
   the ideal instance the kernel's result array is the reference's, entry by entry: `dy` times the decoded weights. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.OutArray
public import proofs.«01_k».proof.Proof.Equation
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts

/-- The reference runs, its arguments end unchanged, and every counter is zero because it declares no semaphore. -/
theorem frame_reference : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- From memories agreeing on the arguments, the kernel and the reference end with the same result array: at
    `(a, b, n)` the sum over `k` of the weight of output column `n` at row `k` times `dy` at `(a, b, k)`. -/
theorem value : Cert.algebraic_KernelIdeal_ReferenceIdeal := by
  intro m g m' g' _ hm
  refine ⟨fun c => Cert.KernelIdeal.Gen.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Gen.kernel_value m g c), (h c).2⟩)
      (Cert.KernelIdeal.Gen.kernel_run (F := Ideal) m g)
  · refine (θ_run Cert.ReferenceIdeal.defs _ _).mono (fun r h c => ⟨(h c).1.trans ?_, (h c).2⟩)
      (Cert.ReferenceIdeal.Value.run (F := Ideal) m' g')
    refine (Cert.Equation.reference_value (StableHlo.launchContents m' c)).trans ?_
    obtain ⟨h0, h1, h2⟩ := hm c
    show Cert.KernelIdeal.Gen.result
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
    rw [h0, h1, h2]

/-- Everything claimed. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial, value⟩

end Cert.Proof

end
